-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_first_bias [hPre_no_first_bias : Cert.Pre_no_first_bias.Facts] (m : (ℓ : Loc Cert.KernelIdeal.nD Cert.KernelIdeal.τ Cert.KernelIdeal.sig) → Buf (Elt Ideal) ℓ) : Prop :=
  ∀ c : Dev Cert.KernelIdeal.nD,
    (Cert.Pre_no_first_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_first_bias [hPre_no_first_bias : Cert.Pre_no_first_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_first_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_first_bias [hKernelIdeal : Cert.KernelIdeal.Facts] [hPre_no_first_bias : Cert.Pre_no_first_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_first_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_first_bias [hReferenceIdeal : Cert.ReferenceIdeal.Facts] [hPre_no_first_bias : Cert.Pre_no_first_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_first_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_first_bias [hKernelIdeal : Cert.KernelIdeal.Facts] [hReferenceIdeal : Cert.ReferenceIdeal.Facts] [hPre_no_first_bias : Cert.Pre_no_first_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_first_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_first_bias : Cert.Pre_no_first_bias.Facts),
    quiescent_Kernel (hKernel := hKernel)
    ∧ quiescent_KernelIdeal (hKernelIdeal := hKernelIdeal)
    ∧ quiescent_KernelIdeal_pre_no_first_bias (hKernelIdeal := hKernelIdeal) (hPre_no_first_bias := hPre_no_first_bias)
    ∧ quiescent_ReferenceIdeal (hReferenceIdeal := hReferenceIdeal)
    ∧ quiescent_ReferenceIdeal_pre_no_first_bias (hReferenceIdeal := hReferenceIdeal) (hPre_no_first_bias := hPre_no_first_bias)
    ∧ preserves_Kernel_KernelIdeal
    ∧ algebraic_KernelIdeal_ReferenceIdeal_pre_no_first_bias (hKernelIdeal := hKernelIdeal) (hReferenceIdeal := hReferenceIdeal) (hPre_no_first_bias := hPre_no_first_bias)
-- ==== Pre_no_first_bias.lean ====
abbrev S2048x512 : Shape := ⟨2, ![2048, 512]⟩
abbrev S2048 : Shape := ⟨1, ![2048]⟩
abbrev S1x256 : Shape := ⟨2, ![1, 256]⟩
abbrev S256 : Shape := ⟨1, ![256]⟩
abbrev S256x256 : Shape := ⟨2, ![256, 256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v12 : IVec S_ 1) (main_v15 : IVec S256x256 1) (main_c_5 : IVec S_ 1) : IVec S_ 1 :=
  let main_v16 : IVec S_ 1 := (fun x v => Host.reduce IntOp.andi x v reducesTo_S256x256_S_d0_1 h_S_) main_v15 main_c_5
  let main_v17 : IVec S_ 1 := andi main_v12 main_v16
  main_v17

def fn {F : FTy → Type} [FloatOps F] (main_arg0 : FVec F S2048x512 .f32) (main_arg1 : IVec S2048 32) (main_arg2 : FVec F S1x256 .f32) (main_arg3 : FVec F S256 .f32) (main_arg4 : FVec F S256x256 .f32) (main_arg5 : FVec F S256 .f32) : IVec S_ 1 :=
  let main_cst : FVec F S_ .f32 := constant S_ .f32 0x00000000#32
  let main_v0 : FVec F S256 .f32 := broadcastInDim S256 ![] bcast_S_S256 main_cst
  let main_v1 : IVec S256 1 := cmpf .oeq main_arg3 main_v0
  let main_c : IVec S_ 1 := constantI S_ 1 1#1
  let main_v2 : IVec S_ 1 := (fun x v => Host.reduce IntOp.andi x v reducesTo_S256_S_d0 h_S_) main_v1 main_c
  let main_v3 : FVec F S2048x512 .f32 := Host.absf main_arg0
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_c_1 : IVec S_ 1 := constantI S_ 1 1#1
  let main_v6 : IVec S_ 1 := (fun x v => Host.reduce IntOp.andi x v reducesTo_S2048x512_S_d0_1 h_S_) main_v5 main_c_1
  let main_v7 : IVec S_ 1 := andi main_v2 main_v6
  let main_v8 : FVec F S1x256 .f32 := Host.absf main_arg2
  let main_cst_2 : FVec F S_ .f32 := constant S_ .f32 0x7F800000#32
  let main_v9 : FVec F S1x256 .f32 := broadcastInDim S1x256 ![] bcast_S_S1x256 main_cst_2
  let main_v10 : IVec S1x256 1 := cmpf .olt main_v8 main_v9
  let main_c_3 : IVec S_ 1 := constantI S_ 1 1#1
  let main_v11 : IVec S_ 1 := (fun x v => Host.reduce IntOp.andi x v reducesTo_S1x256_S_d0_1 h_S_) main_v10 main_c_3
  let main_v12 : IVec S_ 1 := andi main_v7 main_v11
  let main_v13 : FVec F S256x256 .f32 := Host.absf main_arg4
  let main_cst_4 : FVec F S_ .f32 := constant S_ .f32 0x7F800000#32
  let main_v14 : FVec F S256x256 .f32 := broadcastInDim S256x256 ![] bcast_S_S256x256 main_cst_4
  let main_v15 : IVec S256x256 1 := cmpf .olt main_v13 main_v14
  let main_c_5 : IVec S_ 1 := constantI S_ 1 1#1
  fn_part1 (F := F) main_v12 main_v15 main_c_5
-- ==== Kernel.lean ====
abbrev S2048x512 : Shape := ⟨2, ![2048, 512]⟩
abbrev S2048 : Shape := ⟨1, ![2048]⟩
abbrev S1x256 : Shape := ⟨2, ![1, 256]⟩
abbrev S256 : Shape := ⟨1, ![256]⟩
abbrev S256x256 : Shape := ⟨2, ![256, 256]⟩
abbrev S_ : Shape := ⟨0, ![]⟩
abbrev S4x256 : Shape := ⟨2, ![4, 256]⟩
abbrev S264x256 : Shape := ⟨2, ![264, 256]⟩
abbrev S2048x256 : Shape := ⟨2, ![2048, 256]⟩
abbrev S256x512 : Shape := ⟨2, ![256, 512]⟩
abbrev S512x128 : Shape := ⟨2, ![512, 128]⟩
abbrev S256x128 : Shape := ⟨2, ![256, 128]⟩
abbrev S256x1 : Shape := ⟨2, ![256, 1]⟩
abbrev S1x2048 : Shape := ⟨2, ![1, 2048]⟩
abbrev S256x2048 : Shape := ⟨2, ![256, 2048]⟩

abbrev nBuf : Space → Nat
  | .hbm => 35
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S1x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .i1⟩
  | .hbm, ⟨10, _⟩ => ⟨S_, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .i1⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S264x256, .f32⟩
  | .hbm, ⟨31, _⟩ => ⟨S2048x256, .f32⟩
  | .hbm, ⟨32, _⟩ => ⟨S2048x256, .f32⟩
  | .hbm, ⟨33, _⟩ => ⟨S1x2048, .i32⟩
  | .hbm, ⟨34, _⟩ => ⟨S2048x256, .f32⟩
  | .local _ .vmem, ⟨0, _⟩ => ⟨S256x512, .f32⟩
  | .local _ .vmem, ⟨1, _⟩ => ⟨S256x512, .f32⟩
  | .local _ .vmem, ⟨2, _⟩ => ⟨S264x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S2048x256, .f32⟩
  | .local _ .vmem, ⟨8, _⟩ => ⟨S1x2048, .i32⟩
  | .local _ .vmem, ⟨9, _⟩ => ⟨S256x256, .f32⟩
  | .local _ .vmem, ⟨10, _⟩ => ⟨S256x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S264x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v2 : BitVec 32 := Scalar.muli arg0 c256_i32
  let v3 : Index := Scalar.indexCast v2
  let c0_1 : Index := 0#32
  ![v3.toNat, 0]
def k1_off2 (i : grid1.Coords) : Fin 2 → Nat :=
  let c0_9 : Index := 0#32
  let arg0 : BitVec 32 := BitVec.ofNat 32 (i 0).val
  let c256_i32_8 : BitVec 32 := 256#32
  let v25 : BitVec 32 := Scalar.muli arg0 c256_i32_8
  let v26 : Index := Scalar.indexCast v25
  ![0, v26.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2048x512 : Shape := ⟨2, ![2048, 512]⟩
abbrev S2048 : Shape := ⟨1, ![2048]⟩
abbrev S1x256 : Shape := ⟨2, ![1, 256]⟩
abbrev S256 : Shape := ⟨1, ![256]⟩
abbrev S256x256 : Shape := ⟨2, ![256, 256]⟩
abbrev S2048x256 : Shape := ⟨2, ![2048, 256]⟩
abbrev S2048x512x1 : Shape := ⟨3, ![2048, 512, 1]⟩
abbrev S2048x512x256 : Shape := ⟨3, ![2048, 512, 256]⟩
abbrev S1x1x256 : Shape := ⟨3, ![1, 1, 256]⟩
abbrev S_ : Shape := ⟨0, ![]⟩
abbrev S2048x256x1 : Shape := ⟨3, ![2048, 256, 1]⟩
abbrev S2048x256x256 : Shape := ⟨3, ![2048, 256, 256]⟩
abbrev S2048x1 : Shape := ⟨2, ![2048, 1]⟩
abbrev S1x2048 : Shape := ⟨2, ![1, 2048]⟩
abbrev S2048x2048 : Shape := ⟨2, ![2048, 2048]⟩
abbrev S256x2048 : Shape := ⟨2, ![256, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S1x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S2048x256, .f32⟩
  | .hbm, ⟨7, _⟩ => ⟨S2048x512x1, .f32⟩
  | .hbm, ⟨8, _⟩ => ⟨S2048x512x256, .f32⟩
  | .hbm, ⟨9, _⟩ => ⟨S1x1x256, .f32⟩
  | .hbm, ⟨10, _⟩ => ⟨S2048x512x256, .f32⟩
  | .hbm, ⟨11, _⟩ => ⟨S2048x512x256, .f32⟩
  | .hbm, ⟨12, _⟩ => ⟨S_, .f32⟩
  | .hbm, ⟨13, _⟩ => ⟨S2048x512x256, .f32⟩
  | .hbm, ⟨14, _⟩ => ⟨S2048x512x256, .f32⟩
  | .hbm, ⟨15, _⟩ => ⟨S_, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x256x1, .f32⟩
  | .hbm, ⟨26, _⟩ => ⟨S2048x256x256, .f32⟩
  | .hbm, ⟨27, _⟩ => ⟨S1x1x256, .f32⟩
  | .hbm, ⟨28, _⟩ => ⟨S2048x256x256, .f32⟩
  | .hbm, ⟨29, _⟩ => ⟨S2048x256x256, .f32⟩
  | .hbm, ⟨30, _⟩ => ⟨S_, .f32⟩
  | .hbm, ⟨31, _⟩ => ⟨S2048x256x256, .f32⟩
  | .hbm, ⟨32, _⟩ => ⟨S2048x256x256, .f32⟩
  | .hbm, ⟨33, _⟩ => ⟨S_, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S1x256, .f32⟩
  | .hbm, ⟨40, _⟩ => ⟨S2048x256, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S256x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .i32⟩
  | .hbm, ⟨63, _⟩ => ⟨S2048x2048, .i32⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S2048x2048, .f32⟩
  | .hbm, ⟨69, _⟩ => ⟨S_, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x1, .i32⟩
  | .hbm, ⟨74, _⟩ => ⟨S1x2048, .i32⟩
  | .hbm, ⟨75, _⟩ => ⟨S2048x2048, .i32⟩
  | .hbm, ⟨76, _⟩ => ⟨S2048x2048, .i32⟩
  | .hbm, ⟨77, _⟩ => ⟨S2048x2048, .i1⟩
  | .hbm, ⟨78, _⟩ => ⟨S_, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S2048x2048, .i32⟩
  | .hbm, ⟨83, _⟩ => ⟨S_, .f32⟩
  | .hbm, ⟨84, _⟩ => ⟨S_, .i32⟩
  | .hbm, ⟨85, _⟩ => ⟨S2048, .f32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S2048x1, .i32⟩
  | .hbm, ⟨95, _⟩ => ⟨S2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_call3_v0 : Ref sig .tc := ⟨.hbm, 79, rfl⟩
abbrev main_call3_v1 : Ref sig .tc := ⟨.hbm, 80, rfl⟩
abbrev main_v57 : Ref sig .tc := ⟨.hbm, 81, rfl⟩
abbrev main_call4_v0 : Ref sig .tc := ⟨.hbm, 82, rfl⟩
abbrev main_call4_cst : Ref sig .tc := ⟨.hbm, 83, rfl⟩
abbrev main_call4_c : Ref sig .tc := ⟨.hbm, 84, rfl⟩
abbrev main_call4_v1_0 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== Proof.KernelRun.lean ====
/-
  The run of the idealized kernel with its results: the three result arrays end as the two pipelines leave them, the
  arguments unchanged. The launch is set up as in the generated frame; only what is read at the end differs.
-/
module

public import proofs.«01_k».proof.Proof.Gen.KernelIdeal.Frame

@[expose] public section

noncomputable section

namespace Cert.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result is the third array of the first call, left alone by what follows. -/
theorem W8_actv (c : Dev nD) : W8 m ρ c (Proc.devRef .tc main_v16_0) = (dat0 (V5 m ρ) c).arrAt 2 cfg0.N :=
  (W8_of m ρ c main_v16_0 (by decide)).trans
    ((W7_of m ρ c main_v16_0 (by decide)).trans (W6_arr m ρ c 2))

/-- The second result is the fourth array of the first call. -/
theorem W8_ap (c : Dev nD) : W8 m ρ c (Proc.devRef .tc main_v16_1) = (dat0 (V5 m ρ) c).arrAt 3 cfg0.N :=
  (W8_of m ρ c main_v16_1 (by decide)).trans
    ((W7_of m ρ c main_v16_1 (by decide)).trans (W6_arr m ρ c 3))

/-- The third result is the third array of the second call. -/
theorem W8_an (c : Dev nD) : W8 m ρ c (Proc.devRef .tc main_v18) = (dat1 (V7 m ρ) c).arrAt 2 cfg1.N :=
  W8_arr m ρ c 2

-- matching the launch lemma with this statement takes unfolding plain definitions in types
set_option backward.isDefEq.respectTransparency.types false in
/-- The run: results as the pipelines leave them, arguments unchanged. -/
theorem kernel_run : θ_run defs (onTc (τ := τ) (main (F := F))) ⟨m, fun _ => 0, ρ⟩ (fun r => ∀ c : Dev nD,
      r.2.mem ((c.tc : Thread nD τ).loc main_v16_0) = (dat0 (V5 m ρ) c).arrAt 2 cfg0.N
      ∧ r.2.mem ((c.tc : Thread nD τ).loc main_v16_1) = (dat0 (V5 m ρ) c).arrAt 3 cfg0.N
      ∧ r.2.mem ((c.tc : Thread nD τ).loc main_v18) = (dat1 (V7 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v16_0 (by decide))).trans (W8_actv m ρ c),
       (h c _ (mem_uc main_v16_1 (by decide))).trans (W8_ap m ρ c),
       (h c _ (mem_uc main_v18 (by decide))).trans (W8_an m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Embed
-- ==== Proof.KernelHost.lean ====
/-
  What the idealized kernel's host lines leave for its two calls: the packed operand of the first call, row by row, and
  the reshaped host indices of the second.
-/
module

public import proofs.«01_k».proof.Proof.KernelRun
public import Idealize.ShloMosaic.Lib.StableHlo.ReadAt
public import Idealize.ShloMosaic.Lib.Pointwise
public import Idealize.ShloMosaic.PureOps.Ideal

@[expose] public section

noncomputable section

namespace Cert.Embed

open Cert.KernelIdeal Cert.KernelIdeal.Gen
open Idealize.ShloMosaic Idealize.ShloMosaic.TcCoe Idealize.SL.Sem

/-! ## The last host line: the rows of the packed operand -/

section Line

variable (W : Valuation τ sig (Elt Ideal)) (w wp wn b2 : Vec Ideal S256 .f32) (W2 : Vec Ideal S256x256 .f32)

/-- Row 0: the positive part of the first layer through the second. -/
theorem line_u (hp : W (Proc.devRef .tc main_v3) = wp) (h4 : W (Proc.devRef .tc main_arg4) = W2) (d : Fin 256) :
    (StableHlo.after hostOps0_4 W (Proc.devRef .tc main_v15) : Vec Ideal S264x256 .f32) (ix2 0 d)
      = ∑ k : Fin 256, wp (ix1 k) * W2 (ix2 k d) := by
  after_reads_at
  rw [StableHlo.nary4_result]
  after_reads_at
  rw [hp, h4]
  change (broadcastInDim S1x256 ![1] bcast_S256_S1x256_1
    (Ideal.matmul dot_S256_S256x256_S256_0_0_n_1_n_n wp W2 fun _ => 0) : Vec Ideal S1x256 .f32) (ix2 0 d) = _
  pointwise

/-- Row 1: the negative part of the first layer through the second. -/
theorem line_v (hn : W (Proc.devRef .tc main_v6) = wn) (h4 : W (Proc.devRef .tc main_arg4) = W2) (d : Fin 256) :
    (StableHlo.after hostOps0_4 W (Proc.devRef .tc main_v15) : Vec Ideal S264x256 .f32) (ix2 1 d)
      = ∑ k : Fin 256, wn (ix1 k) * W2 (ix2 k d) := by
  after_reads_at
  rw [StableHlo.nary4_result]
  after_reads_at
  rw [hn, h4]
  change (broadcastInDim S1x256 ![1] bcast_S256_S1x256_1
    (Ideal.matmul dot_S256_S256x256_S256_0_0_n_1_n_n wn W2 fun _ => 0) : Vec Ideal S1x256 .f32) (ix2 0 d) = _
  pointwise

/-- Row 2: the second bias. -/
theorem line_b2 (h5 : W (Proc.devRef .tc main_arg5) = b2) (d : Fin 256) :
    (StableHlo.after hostOps0_4 W (Proc.devRef .tc main_v15) : Vec Ideal S264x256 .f32) (ix2 2 d) = b2 (ix1 d) := by
  after_reads_at
  rw [StableHlo.nary4_result]
  after_reads_at
  rw [h5]
  change (broadcastInDim S1x256 ![1] bcast_S256_S1x256_1 b2 : Vec Ideal S1x256 .f32) (ix2 0 d) = _
  pointwise

/-- Row 3: the first layer's weights. -/
theorem line_w (h0 : W (Proc.devRef .tc main_v0) = w) (d : Fin 256) :
    (StableHlo.after hostOps0_4 W (Proc.devRef .tc main_v15) : Vec Ideal S264x256 .f32) (ix2 3 d) = w (ix1 d) := by
  after_reads_at
  rw [StableHlo.nary4_result]
  after_reads_at
  rw [h0]
  change (broadcastInDim S1x256 ![1] bcast_S256_S1x256_1 w : Vec Ideal S1x256 .f32) (ix2 0 d) = _
  pointwise

/-- Rows 8 to 263: the second layer's weights. -/
theorem line_W2 (h4 : W (Proc.devRef .tc main_arg4) = W2) (k d : Fin 256) :
    (StableHlo.after hostOps0_4 W (Proc.devRef .tc main_v15) : Vec Ideal S264x256 .f32) (ix2 ⟨8 + k.val, by omega⟩ d)
      = W2 (ix2 k d) := by
  after_reads_at
  rw [dif_neg (by omega), dif_neg (by omega)]
  have e : (⟨8 + k.val - 4 - 4, by omega⟩ : Fin 256) = k := Fin.ext (by simp only []; omega)
  exact (congrFun h4 _).trans (congrArg (fun j : Fin 256 => W2 (ix2 j d)) e)

end Line

variable (m : (ℓ : Loc nD τ sig) → Buf (Elt Ideal) ℓ) (ρ : Dev nD → PrngReg)

/-! ## The lines before it: the first layer's weights and their two parts -/

/-- The first layer's weights as a vector of 256. -/
def wRow (W1 : Vec Ideal S1x256 .f32) : Vec Ideal S256 .f32 := fun i => W1 (ix2 0 (i 0))

/-- The positive weights, zero elsewhere. -/
def wPos (W1 : Vec Ideal S1x256 .f32) : Vec Ideal S256 .f32 := fun i => if 0 < W1 (ix2 0 (i 0)) then W1 (ix2 0 (i 0)) else 0

/-- The negative weights, zero elsewhere. -/
def wNeg (W1 : Vec Ideal S1x256 .f32) : Vec Ideal S256 .f32 := fun i => if W1 (ix2 0 (i 0)) < 0 then W1 (ix2 0 (i 0)) else 0

/-- The literal zero of the two selects. -/
theorem zero_const : (constant S_ .f32 0#32 : FVec Ideal S_ .f32) ix0 = (0 : EReal) := by pointwise

theorem W4_w (c : Dev nD) : (W4 m ρ c (Proc.devRef .tc main_v0)) = wRow (m ((c.tc : Thread nD τ).loc main_arg2)) := by
  funext i
  obtain ⟨d, rfl⟩ : ∃ d, i = ix1 d := ⟨i 0, by funext a; fin_cases a; rfl⟩
  unfold W4 W3 W2 W1 W0
  after_reads_at
  rfl

theorem W4_wPos (c : Dev nD) : (W4 m ρ c (Proc.devRef .tc main_v3)) = wPos (m ((c.tc : Thread nD τ).loc main_arg2)) := by
  funext i
  obtain ⟨d, rfl⟩ : ∃ d, i = ix1 d := ⟨i 0, by funext a; fin_cases a; rfl⟩
  unfold W4 W3 W2 W1 W0
  after_reads_at
  set x : EReal := (m ((c.tc : Thread nD τ).loc main_arg2) : Vec Ideal S1x256 .f32) (ix2 0 d)
  exact congrArg (fun z : EReal => if 0 < x then x else z) zero_const

theorem W4_wNeg (c : Dev nD) : (W4 m ρ c (Proc.devRef .tc main_v6)) = wNeg (m ((c.tc : Thread nD τ).loc main_arg2)) := by
  funext i
  obtain ⟨d, rfl⟩ : ∃ d, i = ix1 d := ⟨i 0, by funext a; fin_cases a; rfl⟩
  unfold W4 W3 W2 W1 W0
  after_reads_at
  set x : EReal := (m ((c.tc : Thread nD τ).loc main_arg2) : Vec Ideal S1x256 .f32) (ix2 0 d)
  exact congrArg (fun z : EReal => if x < 0 then x else z) zero_const

/-! ## The operands of the two calls -/

/-- The first call's first operand is the context as launched. -/
theorem V5_context (c : Dev nD) : V5 m ρ c main_arg0 = m ((c.tc : Thread nD τ).loc main_arg0) :=
  W5_args m ρ c main_arg0 (by decide)

theorem V5_u (c : Dev nD) (d : Fin 256) : (V5 m ρ c main_v15 : Vec Ideal S264x256 .f32) (ix2 0 d)
    = ∑ k : Fin 256, wPos (m ((c.tc : Thread nD τ).loc main_arg2)) (ix1 k)
        * (m ((c.tc : Thread nD τ).loc main_arg4) : Vec Ideal S256x256 .f32) (ix2 k d) :=
  line_u (W4 m ρ c) _ _ (W4_wPos m ρ c) (W4_args m ρ c main_arg4 (by decide)) d

theorem V5_v (c : Dev nD) (d : Fin 256) : (V5 m ρ c main_v15 : Vec Ideal S264x256 .f32) (ix2 1 d)
    = ∑ k : Fin 256, wNeg (m ((c.tc : Thread nD τ).loc main_arg2)) (ix1 k)
        * (m ((c.tc : Thread nD τ).loc main_arg4) : Vec Ideal S256x256 .f32) (ix2 k d) :=
  line_v (W4 m ρ c) _ _ (W4_wNeg m ρ c) (W4_args m ρ c main_arg4 (by decide)) d

theorem V5_b2 (c : Dev nD) (d : Fin 256) : (V5 m ρ c main_v15 : Vec Ideal S264x256 .f32) (ix2 2 d)
    = (m ((c.tc : Thread nD τ).loc main_arg5) : Vec Ideal S256 .f32) (ix1 d) :=
  line_b2 (W4 m ρ c) _ (W4_args m ρ c main_arg5 (by decide)) d

theorem V5_w (c : Dev nD) (d : Fin 256) : (V5 m ρ c main_v15 : Vec Ideal S264x256 .f32) (ix2 3 d)
    = (m ((c.tc : Thread nD τ).loc main_arg2) : Vec Ideal S1x256 .f32) (ix2 0 d) :=
  line_w (W4 m ρ c) _ (W4_w m ρ c) d

theorem V5_W2 (c : Dev nD) (k d : Fin 256) : (V5 m ρ c main_v15 : Vec Ideal S264x256 .f32) (ix2 ⟨8 + k.val, by omega⟩ d)
    = (m ((c.tc : Thread nD τ).loc main_arg4) : Vec Ideal S256x256 .f32) (ix2 k d) :=
  line_W2 (W4 m ρ c) _ (W4_args m ρ c main_arg4 (by decide)) k d

/-- The second call's first operand is the first call's third array. -/
theorem V7_actv (c : Dev nD) : V7 m ρ c main_v16_0 = (dat0 (V5 m ρ) c).arrAt 2 cfg0.N :=
  (W7_of m ρ c main_v16_0 (by decide)).trans (W6_arr m ρ c 2)

/-- The second call's second operand is the host indices, laid out as one row. -/
theorem V7_host (c : Dev nD) (i : Fin 2048) : (V7 m ρ c main_v17 : IVec S1x2048 32) (ix2 0 i)
    = (m ((c.tc : Thread nD τ).loc main_arg1) : IVec S2048 32) (ix1 i) := by
  unfold V7 W7
  after_reads_at
  exact congrFun (W6_args m ρ c main_arg1 (by decide)) (ix1 i)

end Cert.Embed
-- ==== Proof.RefTerm.lean ====
/-
  The three results of the reference as closed terms of its arguments: each operation of the printed program applied to
  the terms of its operands, in the program's order.
-/
module

public import proofs.«01_k».proof.ReferenceIdeal
public import proofs.«01_k».proof.Proof.Gen.ReferenceIdeal
public import Idealize.ShloMosaic.PureOps.Ideal
public import Idealize.ShloMosaic.Lib.Claim

@[expose] public section

noncomputable section

namespace Cert.Embed.Ref

open Idealize.ShloMosaic Idealize.SL.Sem Cert.ReferenceIdeal Cert.ReferenceIdeal.Gen

/-- The embedding of the whole context. -/
def ap (x : FVec Ideal S2048x512 .f32) (w : FVec Ideal S1x256 .f32) (b1 : FVec Ideal S256 .f32) (W2 : FVec Ideal S256x256 .f32)
    (b2 : FVec Ideal S256 .f32) : FVec Ideal S2048x256 .f32 :=
  let v2 : FVec Ideal S2048x512x256 .f32 := Host.dotGeneral dot_S2048x512x1_S1x256_S2048x512x256_2_0_01_1_n_n none
    (broadcastInDim S2048x512x1 ![0, 1] bcast_S2048x512_S2048x512x1_0_1 x) w
  let v5 : FVec Ideal S2048x512x256 .f32 := addf v2 (broadcastInDim S2048x512x256 ![0, 1, 2] bcast_S1x1x256_S2048x512x256_0_1_2
    (broadcastInDim S1x1x256 ![2] bcast_S256_S1x1x256_2 b1))
  let v6 : FVec Ideal S2048x512x256 .f32 := maximumf v5 (broadcastInDim S2048x512x256 ![] bcast_S_S2048x512x256 (constant S_ .f32 0x00000000#32))
  let v7 : FVec Ideal S2048x256 .f32 := Host.reduceAdd v6 (constant S_ .f32 0x00000000#32) reducesTo_S2048x512x256_S2048x256_d1 h_S_
  let v9 : FVec Ideal S2048x256 .f32 := Host.divf v7 (broadcastInDim S2048x256 ![] bcast_S_S2048x256 (constant S_ .f32 0x44000000#32))
  let v10 : FVec Ideal S2048x256 .f32 := Host.dotGeneral dot_S2048x256_S256x256_S2048x256_1_0_0_1_n_n none v9 W2
  Host.tanh (addf v10 (broadcastInDim S2048x256 ![0, 1] bcast_S1x256_S2048x256_0_1 (broadcastInDim S1x256 ![1] bcast_S256_S1x256_1 b2)))

/-- The embedding of the first half of the context. -/
def actv (x : FVec Ideal S2048x512 .f32) (w : FVec Ideal S1x256 .f32) (b1 : FVec Ideal S256 .f32) (W2 : FVec Ideal S256x256 .f32)
    (b2 : FVec Ideal S256 .f32) : FVec Ideal S2048x256 .f32 :=
  let v0 : FVec Ideal S2048x256 .f32 := extractStridedSlice S2048x256 ![0, 0] x slices_S2048x512_S2048x256_0_0
  let v16 : FVec Ideal S2048x256x256 .f32 := Host.dotGeneral dot_S2048x256x1_S1x256_S2048x256x256_2_0_01_1_n_n none
    (broadcastInDim S2048x256x1 ![0, 1] bcast_S2048x256_S2048x256x1_0_1 v0) w
  let v19 : FVec Ideal S2048x256x256 .f32 := addf v16 (broadcastInDim S2048x256x256 ![0, 1, 2] bcast_S1x1x256_S2048x256x256_0_1_2
    (broadcastInDim S1x1x256 ![2] bcast_S256_S1x1x256_2 b1))
  let v20 : FVec Ideal S2048x256x256 .f32 := maximumf v19 (broadcastInDim S2048x256x256 ![] bcast_S_S2048x256x256 (constant S_ .f32 0x00000000#32))
  let v21 : FVec Ideal S2048x256 .f32 := Host.reduceAdd v20 (constant S_ .f32 0x00000000#32) reducesTo_S2048x256x256_S2048x256_d1 h_S_
  let v23 : FVec Ideal S2048x256 .f32 := Host.divf v21 (broadcastInDim S2048x256 ![] bcast_S_S2048x256 (constant S_ .f32 0x43800000#32))
  let v24 : FVec Ideal S2048x256 .f32 := Host.dotGeneral dot_S2048x256_S256x256_S2048x256_1_0_0_1_n_n none v23 W2
  Host.tanh (addf v24 (broadcastInDim S2048x256 ![0, 1] bcast_S1x256_S2048x256_0_1 (broadcastInDim S1x256 ![1] bcast_S256_S1x256_1 b2)))

/-- The distances between the rows of `e`, the diagonal and the rows of the same host set to the largest size. -/
def masked (e : FVec Ideal S2048x256 .f32) (host : IVec S2048 32) : FVec Ideal S2048x2048 .f32 :=
  let v30 : FVec Ideal S2048 .f32 := Host.reduceAdd (mulf e e) (constant S_ .f32 0x00000000#32) reducesTo_S2048x256_S2048_d1 h_S_
  let v35 : FVec Ideal S2048x2048 .f32 := addf
    (broadcastInDim S2048x2048 ![0, 1] bcast_S2048x1_S2048x2048_0_1 (broadcastInDim S2048x1 ![0] bcast_S2048_S2048x1_0 v30))
    (broadcastInDim S2048x2048 ![0, 1] bcast_S1x2048_S2048x2048_0_1 (broadcastInDim S1x2048 ![1] bcast_S2048_S1x2048_1 v30))
  let v37 : FVec Ideal S2048x2048 .f32 := Host.dotGeneral dot_S2048x256_S256x2048_S2048x2048_1_0_0_1_n_n none e
    (transpose S256x2048 [1, 0] e transposes_S2048x256_S256x2048_1_0)
  let v40 : FVec Ideal S2048x2048 .f32 := subf v35 (mulf (broadcastInDim S2048x2048 ![] bcast_S_S2048x2048 (constant S_ .f32 0x40000000#32)) v37)
  let v42 : FVec Ideal S2048x2048 .f32 := Host.sqrt (maximumf (broadcastInDim S2048x2048 ![] bcast_S_S2048x2048 (constant S_ .f32 0x00000000#32)) v40)
  let v47 : IVec S2048x2048 1 := cmpi .eq (addi (iotaInDim S2048x2048 32 0) (broadcastInDim S2048x2048 ![] bcast_S_S2048x2048 (constantI S_ 32 0#32)))
    (iotaInDim S2048x2048 32 1)
  let v50 : FVec Ideal S2048x2048 .f32 := mulf (broadcastInDim S2048x2048 ![] bcast_S_S2048x2048 (constant S_ .f32 0x5F000000#32)) (uitofp .f32 v47)
  let v56 : IVec S2048x2048 1 := cmpi .eq
    (broadcastInDim S2048x2048 ![0, 1] bcast_S2048x1_S2048x2048_0_1 (broadcastInDim S2048x1 ![0] bcast_S2048_S2048x1_0 host))
    (broadcastInDim S2048x2048 ![0, 1] bcast_S1x2048_S2048x2048_0_1 (broadcastInDim S1x2048 ![1] bcast_S2048_S1x2048_1 host))
  select v56 (broadcastInDim S2048x2048 ![] bcast_S_S2048x2048 (constant S_ .f32 0x5F000000#32)) (addf v42 v50)

/-- The column of the least entry of each row. -/
def argmin (y : FVec Ideal S2048x2048 .f32) : IVec S2048 32 := fun j =>
  (Host.argReduce reducer_argmin_f32_i32 y (iotaInDim S2048x2048 32 1) (constant S_ .f32 0x7F800000#32) (constantI S_ 32 0#32)
    reducesTo_S2048x2048_S2048_d1 h_S_ j).2

/-- The rows of `e` at the columns `idx`, a negative one counted from the end. -/
def rows (e : FVec Ideal S2048x256 .f32) (idx : IVec S2048 32) : FVec Ideal S2048x256 .f32 :=
  let v63 : IVec S2048 32 := select (cmpi .slt idx (broadcastInDim S2048 ![] bcast_S_S2048 (constantI S_ 32 0#32)))
    (addi idx (broadcastInDim S2048 ![] bcast_S_S2048 (constantI S_ 32 2048#32))) idx
  Host.gather gather_S2048x256_S2048x1_S2048x256_1_0_n_n_0_1_1256 e (broadcastInDim S2048x1 ![0] bcast_S2048_S2048x1_0 v63)

/-- The negative anchors. -/
def an (e : FVec Ideal S2048x256 .f32) (host : IVec S2048 32) : FVec Ideal S2048x256 .f32 :=
  rows e (argmin (masked e host))

end Cert.Embed.Ref
-- ==== Proof.RefRun.lean ====
/-
  The reference's run: it ends with its arguments unchanged, every semaphore counter at zero, and its three results at the
  closed terms of `RefTerm`.
-/
module

public import proofs.«01_k».proof.Proof.RefTerm

@[expose] public section

set_option maxRecDepth 100000
set_option maxHeartbeats 0

noncomputable section

namespace Cert.Embed.Ref

open Idealize.ShloMosaic Idealize.SL.Sem Cert.ReferenceIdeal Cert.ReferenceIdeal.Gen

/-- The three results, and the arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28) = actv (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v14) = ap (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v65) = an (actv (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5)))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  all_goals rfl

/-- The arguments end unchanged and every semaphore counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2, sem_eq_zero_of_no_sems (by decide) r.2⟩) (run m g)

end Cert.Embed.Ref
-- ==== Proof.RealSums.lean ====
/-
  The two identities of the embedding over the reals: sums of finite entries are the sums of their reals, and the mean of
  the rectified products splits into the parts of the positive and the negative weights.
-/
module

public import Idealize.ShloMosaic.PureOps.Ideal
public import Mathlib.Data.EReal.Basic
public import Mathlib.Data.EReal.Operations

@[expose] public section

noncomputable section

namespace Cert.Embed

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

/-- An entry whose size is below ∞ is a real. -/
theorem real_of_abs_lt {a : EReal} (h : max a (-a) < ⊤) : a = ((a.toReal : ℝ) : EReal) := by
  refine (EReal.coe_toReal ?_ ?_).symm
  · rintro rfl; simp at h
  · rintro rfl; simp at h

/-- A rectified product by the sign of its weight. -/
theorem relu_mul (x w : ℝ) : max (x * w) 0 = max x 0 * (if 0 < w then w else 0) + min x 0 * (if w < 0 then w else 0) := by
  rcases lt_trichotomy w 0 with h | h | h
  · rw [if_neg (not_lt.mpr h.le), if_pos h]
    rcases le_total x 0 with hx | hx
    · rw [max_eq_left (mul_nonneg_of_nonpos_of_nonpos hx h.le), min_eq_left hx]; ring
    · rw [max_eq_right (mul_nonpos_of_nonneg_of_nonpos hx h.le), min_eq_right hx]; ring
  · subst h; simp
  · rw [if_pos h, if_neg (not_lt.mpr h.le)]
    rcases le_total x 0 with hx | hx
    · rw [max_eq_right (mul_nonpos_of_nonpos_of_nonneg hx h.le), max_eq_right hx]; ring
    · rw [max_eq_left (mul_nonneg hx h.le), max_eq_left hx]; ring

/-- The means of the rectified products, put through the second weights: the mean of the positive entries times the positive
    weights' part, and the mean of the negative ones times the negative weights' part. -/
theorem split_real {n m : ℕ} (X : Fin n → ℝ) (W A : Fin m → ℝ) (q : ℝ) :
    ∑ h, (∑ t, max (X t * W h) 0) * q * A h
      = (∑ t, max (X t) 0) * q * (∑ h, (if 0 < W h then W h else 0) * A h)
        + (∑ t, min (X t) 0) * q * ∑ h, (if W h < 0 then W h else 0) * A h := by
  rw [Finset.mul_sum, Finset.mul_sum, ← Finset.sum_add_distrib]
  refine Finset.sum_congr rfl fun h _ => ?_
  simp only [relu_mul, Finset.sum_add_distrib, ← Finset.sum_mul]
  ring

/-- The same of extended reals that are real. -/
theorem split_ereal {n m : ℕ} (x : Fin n → EReal) (w a : Fin m → EReal) (q : ℝ) (hx : ∀ t, x t = ((x t).toReal : EReal))
    (hw : ∀ h, w h = ((w h).toReal : EReal)) (ha : ∀ h, a h = ((a h).toReal : EReal)) :
    ∑ h, (∑ t, max (x t * w h) 0) * ((q : ℝ) : EReal) * a h
      = (∑ t, max (x t) 0) * ((q : ℝ) : EReal) * (∑ h, (if 0 < w h then w h else 0) * a h)
        + (∑ t, min (x t) 0) * ((q : ℝ) : EReal) * ∑ h, (if w h < 0 then w h else 0) * a h := by
  obtain ⟨X, rfl⟩ : ∃ X : Fin n → ℝ, x = fun t => ((X t : ℝ) : EReal) := ⟨_, funext hx⟩
  obtain ⟨W, rfl⟩ : ∃ W : Fin m → ℝ, w = fun t => ((W t : ℝ) : EReal) := ⟨_, funext hw⟩
  obtain ⟨A, rfl⟩ : ∃ A : Fin m → ℝ, a = fun t => ((A t : ℝ) : EReal) := ⟨_, funext ha⟩
  have hp : ∀ h, (if (0 : EReal) < (W h : EReal) then (W h : EReal) else 0) = ((if 0 < W h then W h else 0 : ℝ) : EReal) := fun h => by
    simp only [EReal.coe_pos]; split_ifs <;> rfl
  have hn : ∀ h, (if (W h : EReal) < (0 : EReal) then (W h : EReal) else 0) = ((if W h < 0 then W h else 0 : ℝ) : EReal) := fun h => by
    simp only [EReal.coe_neg']; split_ifs <;> rfl
  simp only [hp, hn]
  simp only [← EReal.coe_zero, ← EReal.coe_mul, ← coe_max, ← coe_min, ← coe_sum, ← EReal.coe_add]
  rw [split_real]

end Cert.Embed
-- ==== Proof.FirstMin.lean ====
/-
  The first position of the least value of a finite family, and two computations that find it: the least of the column
  words marked where the value is the minimum, and the left fold that keeps the smaller (value, word) pair.
-/
module

public import Idealize.ShloMosaic.PureOps.Ideal
public import Idealize.ShloMosaic.PureOps.Reduce
public import Mathlib.Data.EReal.Basic
public import Mathlib.Data.Finset.Fold

@[expose] public section

noncomputable section

namespace Cert.Embed

open Idealize.ShloMosaic

/-- `k` is the first position at which `f` takes its least value. -/
def IsFirstMin {n : ℕ} (f : Fin n → EReal) (k : Fin n) : Prop := (∀ j, f k ≤ f j) ∧ ∀ j, j < k → f k < f j

theorem exists_firstMin {n : ℕ} [NeZero n] (f : Fin n → EReal) : ∃ k, IsFirstMin f k := by
  classical
  obtain ⟨i, hi⟩ := Finite.exists_min f
  obtain ⟨k, hk, hmin⟩ := (Finset.univ.filter fun i => ∀ j, f i ≤ f j).exists_minimal ⟨i, by simpa using hi⟩
  have hk' : ∀ j, f k ≤ f j := by simpa using hk
  refine ⟨k, hk', fun j hj => lt_of_le_of_ne (hk' j) fun e => ?_⟩
  exact absurd (hmin (by simpa [← e] using hk') hj.le) (not_le.mpr hj)

theorem IsFirstMin.unique {n : ℕ} {f : Fin n → EReal} {k k' : Fin n} (h : IsFirstMin f k) (h' : IsFirstMin f k') : k = k' := by
  rcases lt_trichotomy k k' with hl | he | hl
  · exact absurd (h'.2 k hl) (not_lt.mpr (h.1 k'))
  · exact he
  · exact absurd (h.2 k' hl) (not_lt.mpr (h'.1 k))

/-- The first position of the least value. -/
def firstMin {n : ℕ} [NeZero n] (f : Fin n → EReal) : Fin n := (exists_firstMin f).choose

theorem firstMin_spec {n : ℕ} [NeZero n] (f : Fin n → EReal) : IsFirstMin f (firstMin f) := (exists_firstMin f).choose_spec

/-- Two families in the same order have the same first least position. -/
theorem firstMin_congr {n : ℕ} [NeZero n] {f g : Fin n → EReal} (h : ∀ i j, f i < f j ↔ g i < g j) : firstMin f = firstMin g := by
  refine IsFirstMin.unique (f := g) ⟨fun j => not_lt.mp fun hl => ?_, fun j hj => (h _ _).mp ((firstMin_spec f).2 j hj)⟩ (firstMin_spec g)
  exact absurd ((h _ _).mpr hl) (not_lt.mpr ((firstMin_spec f).1 j))

/-! ## The least of the marked column words -/

theorem toInt_ofNat (k : Fin 2048) : (BitVec.ofNat 32 k.val).toInt = (k.val : ℤ) := by
  rw [BitVec.toInt_ofNat']
  have := k.isLt
  simp only [Int.bmod]
  omega

theorem toInt_minsi (x y : BitVec 32) : (IntOp.minsi x y).toInt = min x.toInt y.toInt := by
  unfold IntOp.minsi
  split_ifs with h
  · rw [BitVec.slt_iff_toInt_lt] at h; exact (min_eq_left h.le).symm
  · rw [BitVec.slt_iff_toInt_lt] at h; exact (min_eq_right (not_lt.mp h)).symm

theorem fold_min_of_firstMin {f : Fin 2048 → EReal} {k : Fin 2048} (h : IsFirstMin f k) : Finset.fold min ⊤ f Finset.univ = f k :=
  le_antisymm (Finset.fold_min_le _ |>.mpr (Or.inr ⟨k, Finset.mem_univ k, le_rfl⟩))
    (Finset.le_fold_min _ |>.mpr ⟨le_top, fun j _ => h.1 j⟩)

/-- The least of the words, the column where the value is the minimum and 2048 elsewhere, is the first least position. -/
theorem fold_word {f : Fin 2048 → EReal} {k : Fin 2048} (h : IsFirstMin f k) :
    Finset.fold IntOp.minsi (2147483647#32) (fun x : Fin 2048 =>
      if f x = Finset.fold min ⊤ f Finset.univ then BitVec.ofNat 32 x.val else 2048#32) Finset.univ = BitVec.ofNat 32 k.val := by
  rw [fold_min_of_firstMin h]
  refine BitVec.toInt_inj.mp ?_
  rw [← Finset.fold_hom (op := IntOp.minsi) (op' := min) (m := BitVec.toInt) toInt_minsi, toInt_ofNat]
  refine le_antisymm ((Finset.fold_min_le _).mpr (Or.inr ⟨k, Finset.mem_univ k, ?_⟩)) ((Finset.le_fold_min _).mpr ⟨?_, fun j _ => ?_⟩)
  · rw [if_pos rfl, toInt_ofNat]
  · have := k.isLt
    have e : (2147483647#32).toInt = 2147483647 := by decide
    rw [e]; omega
  · split_ifs with e
    · rw [toInt_ofNat]
      by_contra hlt
      have hj : j < k := by rw [Fin.lt_def]; omega
      exact absurd (h.2 j hj) (not_lt.mpr e.le)
    · have := k.isLt
      have e : (2048#32).toInt = 2048 := by decide
      rw [e]; omega

/-! ## The fold that keeps the smaller pair -/

/-- The smaller of two (value, word) pairs: by value, then by word. -/
def keep (a b : EReal × BitVec 32) : EReal × BitVec 32 :=
  if a.1 < b.1 ∨ (a.1 = b.1 ∧ a.2.toInt < b.2.toInt) then a else b

/-- `a` is at most `b`: by value, then by word. -/
def Below (a b : EReal × BitVec 32) : Prop := a.1 < b.1 ∨ (a.1 = b.1 ∧ a.2.toInt ≤ b.2.toInt)

theorem Below.refl (a : EReal × BitVec 32) : Below a a := Or.inr ⟨rfl, le_rfl⟩

theorem Below.trans {a b c : EReal × BitVec 32} (h : Below a b) (h' : Below b c) : Below a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem keep_below (a b : EReal × BitVec 32) : Below (keep a b) a ∧ Below (keep a b) b := by
  unfold keep
  split_ifs with h
  · exact ⟨Below.refl a, h.imp_right fun ⟨e, l⟩ => ⟨e, l.le⟩⟩
  · refine ⟨?_, Below.refl b⟩
    push Not at h
    rcases lt_or_eq_of_le h.1 with l | e
    · exact Or.inl l
    · exact Or.inr ⟨e, h.2 e.symm⟩

theorem foldl_keep (L : List (EReal × BitVec 32)) (a : EReal × BitVec 32) :
    (L.foldl keep a = a ∨ L.foldl keep a ∈ L) ∧ Below (L.foldl keep a) a ∧ ∀ p ∈ L, Below (L.foldl keep a) p := by
  induction L generalizing a with
  | nil => exact ⟨Or.inl rfl, Below.refl a, by simp⟩
  | cons b L ih =>
    obtain ⟨hm, hb, hl⟩ := ih (keep a b)
    obtain ⟨ka, kb⟩ := keep_below a b
    refine ⟨?_, hb.trans ka, ?_⟩
    · rw [List.foldl_cons]
      rcases hm with e | e
      · rw [e]; unfold keep; split_ifs
        · exact Or.inl rfl
        · exact Or.inr List.mem_cons_self
      · exact Or.inr (List.mem_cons_of_mem _ e)
    · intro p hp
      rw [List.foldl_cons]
      rcases List.mem_cons.mp hp with rfl | hp
      · exact hb.trans kb
      · exact hl p hp

/-- Over a list of the pairs of a family with its columns, in any order, the fold from (⊤, 0) ends on the column of the
    first least position. -/
theorem foldl_keep_word {f : Fin 2048 → EReal} {k : Fin 2048} (h : IsFirstMin f k) (L : List (EReal × BitVec 32))
    (hL : ∀ p ∈ L, ∃ c : Fin 2048, p = (f c, BitVec.ofNat 32 c.val)) (hall : ∀ c : Fin 2048, (f c, BitVec.ofNat 32 c.val) ∈ L) :
    (L.foldl keep (⊤, 0#32)).2 = BitVec.ofNat 32 k.val := by
  obtain ⟨hm, -, hl⟩ := foldl_keep L (⊤, 0#32)
  rcases hm with e | e
  · rw [e]
    have htop : ∀ c, f c = ⊤ := fun c => by
      have := hl _ (hall c)
      rw [e] at this
      rcases this with l | l
      · exact absurd l (not_lt.mpr le_top)
      · exact l.1.symm
    have hk : k = 0 := by
      by_contra hne
      have := h.2 0 (Fin.pos_iff_ne_zero.mpr hne)
      rw [htop, htop] at this
      exact absurd this (lt_irrefl _)
    rw [hk]; rfl
  · obtain ⟨c, hc⟩ := hL _ e
    rw [hc]
    have hmin : IsFirstMin f c := by
      refine ⟨fun j => ?_, fun j hj => ?_⟩ <;> have hb := hl _ (hall j) <;> rw [hc] at hb <;> unfold Below at hb
      · rcases hb with l | l
        · exact l.le
        · exact l.1.le
      · rcases hb with l | l
        · exact l
        · rw [toInt_ofNat, toInt_ofNat] at l
          rw [Fin.lt_def] at hj
          omega
    rw [hmin.unique h]

end Cert.Embed
-- ==== Proof.AnBlock.lean ====
/-
  One block of the second call: each of its rows is the row of the first result at the first least masked distance.
-/
module

public import proofs.«01_k».proof.Proof.Gen.KernelIdeal.Frame
public import proofs.«01_k».proof.Proof.FirstMin
public import Idealize.ShloMosaic.Lib.Pipeline.ValueKit
public import Idealize.ShloMosaic.Lib.Pointwise

@[expose] public section

noncomputable section

namespace Cert.Embed

open Idealize.ShloMosaic Idealize.ShloMosaic.TcCoe Cert.KernelIdeal Cert.KernelIdeal.Gen

/-! ## The literals -/

theorem ofBits_inf : Ideal.ofBits .f32 2139095040#32 = ⊤ := by simp [Ideal.ofBits, Ideal.ieee]
theorem ofBits_two : Ideal.ofBits .f32 1073741824#32 = ((2 : ℝ) : EReal) := by
  simp [Ideal.ofBits, Ideal.ieee, -EReal.coe_mul]; norm_num
/-- The value that stands for a row of the same host. -/
theorem ofBits_big : Ideal.ofBits .f32 1593835520#32 = ((9223372036854775808 : ℝ) : EReal) := by
  simp [Ideal.ofBits, Ideal.ieee, -EReal.coe_mul]; norm_num

/-! ## The masked distances -/

/-- The square of the distance between two vectors of 256, from their squared lengths and their product, at least zero. -/
def sqDist (a b : Fin 256 → EReal) : EReal :=
  max ((∑ k, a k * a k) + (∑ k, b k * b k) - ((2 : ℝ) : EReal) * ∑ k, a k * b k) 0

/-- The masked squared distances of one row `a` of host `h` to all the rows. -/
def maskedSq (e : Vec Ideal S2048x256 .f32) (host : Fin 2048 → BitVec 32) (a : Fin 256 → EReal) (h : BitVec 32) (x : Fin 2048) : EReal :=
  if h = host x then ((9223372036854775808 : ℝ) : EReal) else sqDist a fun k => e (ix2 x k)

theorem select_eq {α : Type} (a b : BitVec 32) (x y : α) : Scalar.select (IntOp.cmpi .eq a b) x y = if a = b then x else y := by
  unfold Scalar.select IntOp.cmpi
  by_cases h : a = b
  · simp [h]
  · simp [h, beq_eq_false_iff_ne.mpr h]

theorem ofNat_inj {x k : Fin 2048} : BitVec.ofNat 32 x.val = BitVec.ofNat 32 k.val ↔ x = k :=
  ⟨fun h => Fin.ext (by have := congrArg BitVec.toInt h; rw [toInt_ofNat, toInt_ofNat] at this; omega), fun h => h ▸ rfl⟩

theorem an_pay (v1 : FVec Ideal S2048x256 .f32) (v4 : Vec Ideal S256x256 .f32) (v23 : Vec Ideal S1x2048 .i32) (v27 : Vec Ideal S1x256 .i32)
    (r d : Fin 256) :
    k1_pay1 (F := Ideal) (k1_pay2 v1) (iota .tc S256x2048 32 [1] iota_S256x2048_d1_w32) (k1_pay3 v1 v4 v23 v27) (ix2 r d)
      = v1 (ix2 (firstMin (maskedSq v1 (fun x => v23 (ix2 0 x)) (fun k => v4 (ix2 r k)) (v27 (ix2 0 r)))) d) := by
  set k := firstMin (maskedSq v1 (fun x => v23 (ix2 0 x)) (fun k => v4 (ix2 r k)) (v27 (ix2 0 r))) with hk
  have hmin := firstMin_spec (maskedSq v1 (fun x => v23 (ix2 0 x)) (fun k => v4 (ix2 r k)) (v27 (ix2 0 r)))
  rw [← hk] at hmin
  unfold_payloads
  pointwise
  simp only [select_eq, ofBits_inf, ofBits_two, ofBits_big]
  have hw := fold_word hmin
  unfold maskedSq sqDist at hw
  simp only [hw, ofNat_inj, Finset.sum_ite_eq', Finset.mem_univ, if_true]

/-! ## The block at point `t` -/

theorem coords1 : ∀ t : Fin cfg1.N, (grid1.coords t 0).val = t.val := (by decide +kernel : ∀ t : Fin grid1.N, _)

/-- Row `r` of the `t`-th block of 256, in the whole array. -/
def rowAt (t : Fin cfg1.N) (r : Fin 256) : Fin 2048 :=
  ⟨256 * t.val + r.val, by have h : t.val < 8 := t.isLt; have := r.isLt; omega⟩

theorem ld_rows (x : Vec Ideal S2048x256 .f32) (t : Fin cfg1.N) (h) (r k : Fin 256) :
    View.ld x (Rect.unit (s := S2048x256) (k1_off1 (grid1.coords t)) ![256, 256] h) (ix2 r k) = x (ix2 (rowAt t r) k) := by
  have hc := coords1 t
  have ho := k1_off1_eq (grid1.coords t)
  pointwise
  refine congrArg x (congrArg₂ ix2 (Fin.ext ?_) (Fin.ext ?_))
  · show k1_off1 (grid1.coords t) 0 + r.val = 256 * t.val + r.val
    rw [ho, ← hc]; rfl
  · show k1_off1 (grid1.coords t) 1 + k.val = k.val
    rw [ho]; exact Nat.zero_add _

theorem ld_hosts (x : Vec Ideal S1x2048 .i32) (t : Fin cfg1.N) (h) (r : Fin 256) :
    View.ld x (Rect.unit (s := S1x2048) (k1_off2 (grid1.coords t)) ![1, 256] h) (ix2 0 r) = x (ix2 0 (rowAt t r)) := by
  have hc := coords1 t
  have ho := k1_off2_eq (grid1.coords t)
  pointwise
  refine congrArg x (congrArg₂ ix2 (Fin.ext ?_) (Fin.ext ?_))
  · show k1_off2 (grid1.coords t) 0 = 0
    rw [ho]; rfl
  · show k1_off2 (grid1.coords t) 1 + r.val = 256 * t.val + r.val
    rw [ho, ← hc]; rfl

variable (V : (c : Dev nD) → (b : Ref sig .tc) → Buf (Elt Ideal) ((c : Thread nD τ).loc b))

theorem an_out (c : Dev nD) (t : Fin cfg1.N) (r d : Fin 256) : outsAt1 (F := Ideal) V c t (ix2 r d)
    = iblk1 V c 0 t (ix2 (firstMin (maskedSq (iblk1 V c 0 t) (fun x => (iblk1 V c 1 t : Vec Ideal S1x2048 .i32) (ix2 0 x))
        (fun k => (iblk1 V c 0 t : Vec Ideal S2048x256 .f32) (ix2 (rowAt t r) k))
        ((iblk1 V c 1 t : Vec Ideal S1x2048 .i32) (ix2 0 (rowAt t r))))) d) := by
  unfold outsAt1
  frame_out
  rw [an_pay]
  refine congrArg (fun j => (iblk1 V c 0 t : Vec Ideal S2048x256 .f32) (ix2 j d)) (congrArg firstMin ?_)
  exact congr (congrArg (maskedSq _ _) (funext fun k => ld_rows _ t _ r k)) (ld_hosts _ t _ r)

end Cert.Embed
-- ==== Proof.Precondition.lean ====
/-
  What the precondition says: the first bias is zero, and the context and both weights are real.
-/
module

public import proofs.«01_k».proof.Pre_no_first_bias
public import proofs.«01_k».proof.Proof.Gen.Pre_no_first_bias
public import proofs.«01_k».proof.Proof.RealSums
public import proofs.«01_k».proof.Proof.AnBlock
public import Idealize.ShloMosaic.Lib.ReduceAll
public import Idealize.ShloMosaic.Lib.Affine
public import Idealize.ShloMosaic.PureOps.Ideal.Laws

@[expose] public section

noncomputable section

namespace Cert.Embed.Pre

open Idealize.ShloMosaic Cert.Pre_no_first_bias Cert.Pre_no_first_bias.Gen

instance : Subsingleton S_.Idx := ⟨fun a b => funext fun k => k.elim0⟩

theorem oeq_iff (a b : EReal) : Ideal.cmp .oeq a b = 1#1 ↔ a = b := by
  by_cases h : a = b <;> simp [Ideal.cmp, h]
theorem olt_iff (a b : EReal) : Ideal.cmp .olt a b = 1#1 ↔ a < b := by
  by_cases h : a < b <;> simp [Ideal.cmp, h]

/-- An entry the comparison with ∞ finds smaller in size is real. -/
theorem real_of_olt {a : EReal} (h : Ideal.cmp .olt (max a (-a)) (Ideal.ofBits .f32 0x7F800000#32) = 1#1) : a = ((a.toReal : ℝ) : EReal) :=
  real_of_abs_lt (by have := (olt_iff _ _).mp h; rwa [ofBits_inf] at this)

theorem read (x : FVec Ideal S2048x512 .f32) (host : IVec S2048 32) (w : FVec Ideal S1x256 .f32) (b1 : FVec Ideal S256 .f32)
    (W2 : FVec Ideal S256x256 .f32) (b2 : FVec Ideal S256 .f32) (h : fn (F := Ideal) x host w b1 W2 b2 = fun _ => 1#1) :
    (∀ i, b1 i = 0) ∧ (∀ i, x i = (((x i).toReal : ℝ) : EReal)) ∧ (∀ i, w i = (((w i).toReal : ℝ) : EReal))
      ∧ ∀ i, W2 i = (((W2 i).toReal : ℝ) : EReal) := by
  have h0 := congrFun h (fun k => k.elim0)
  unfold fn fn_part1 at h0
  obtain ⟨h1, hW⟩ := IntOp.andi_eq_one.mp h0
  obtain ⟨h2, hw⟩ := IntOp.andi_eq_one.mp h1
  obtain ⟨hb, hx⟩ := IntOp.andi_eq_one.mp h2
  refine ⟨fun i => ?_, fun i => ?_, fun i => ?_, fun i => ?_⟩
  · have := (oeq_iff _ _).mp (Host.reduce_andi_all _ _ _ _ _ hb i)
    exact this.trans (Ideal.ofBits_zero .f32)
  · exact real_of_olt (Host.reduce_andi_all _ _ _ _ _ hx i)
  · exact real_of_olt (Host.reduce_andi_all _ _ _ _ _ hw i)
  · exact real_of_olt (Host.reduce_andi_all _ _ _ _ _ hW i)

end Cert.Embed.Pre
-- ==== Proof.ApBlock.lean ====
module

public import proofs.«01_k».proof.Proof.Gen.KernelIdeal.Frame
public import Idealize.ShloMosaic.Lib.Pointwise

@[expose] public section

noncomputable section

namespace Cert.Embed

open Idealize.ShloMosaic Cert.KernelIdeal Cert.KernelIdeal.Gen

/-- The pattern of the factor `1/512`. -/
theorem ofBits_inv512 : Ideal.ofBits .f32 989855744#32 = ((1 / 512 : ℝ) : EReal) := by
  simp [Ideal.ofBits, Ideal.ieee, -EReal.coe_mul]
  norm_num

/-- The pattern of the factor `1/256`. -/
theorem ofBits_inv256 : Ideal.ofBits .f32 998244352#32 = ((1 / 256 : ℝ) : EReal) := by
  simp [Ideal.ofBits, Ideal.ieee, -EReal.coe_mul]
  norm_num

/-- What the first call leaves in a block of `e_ap`: rows 0, 1 and 2 of the packed operand are `u`, `v` and the bias. -/
theorem ap_out (x0 : Vec Ideal S256x512 .f32) (x1 : Vec Ideal S264x256 .f32) (r d : Fin 256) :
    out0_3 x0 x1 (ix2 r d)
      = Ideal.tanh ((∑ t : Fin 512, max (x0 (ix2 r t)) 0) * ((1 / 512 : ℝ) : EReal) * x1 (ix2 0 d)
          + (∑ t : Fin 512, min (x0 (ix2 r t)) 0) * ((1 / 512 : ℝ) : EReal) * x1 (ix2 1 d)
          + x1 (ix2 2 d)) := by
  unfold out0_3
  rw [View.canon_unit_zero (by funext a; fin_cases a <;> rfl)]
  unfold_payloads
  pointwise [ofBits_inv512]

end Cert.Embed
-- ==== Proof.ActvBlock.lean ====
module

public import proofs.«01_k».proof.Proof.Gen.KernelIdeal.Frame
public import proofs.«01_k».proof.Proof.ApBlock
public import Idealize.ShloMosaic.Lib.Pointwise

@[expose] public section

set_option maxRecDepth 100000
set_option maxHeartbeats 4000000

noncomputable section

namespace Cert.Embed

open Idealize.ShloMosaic Cert.KernelIdeal Cert.KernelIdeal.Gen

/-- A sum of `8 n` terms, taken eight at a time. -/
theorem sum_by_eight {M : Type*} [AddCommMonoid M] (p : ℕ → M) (n : ℕ) :
    ∑ t ∈ Finset.range (8 * n), p t = ∑ u ∈ Finset.range n, ∑ k ∈ Finset.range 8, p (8 * u + k) := by
  induction n with
  | zero => simp
  | succ n ih => rw [Finset.sum_range_succ, ← ih, Nat.mul_succ, Finset.sum_range_add]

/-- The sum the kernel's accumulator `k` ends with: the terms at `k, k + 8, …`, each with the one 128 further on. -/
def chain {M : Type*} [AddCommMonoid M] (g : ℕ → M) (k : ℕ) : M :=
  ∑ u ∈ Finset.range 16, (g (8 * u + k) + g (8 * u + k + 128))

/-- The eight accumulators, combined in the kernel's order, are the sum of all 256 terms. -/
theorem chains_eq {M : Type*} [AddCommMonoid M] (g : ℕ → M) :
    chain g 0 + chain g 4 + (chain g 2 + chain g 6) + (chain g 1 + chain g 5 + (chain g 3 + chain g 7))
      = ∑ t ∈ Finset.range 256, g t := by
  have h1 : ∑ t ∈ Finset.range 256, g t = ∑ t ∈ Finset.range (8 * 16), (g t + g (t + 128)) := by
    rw [show (256 : ℕ) = 128 + 128 from rfl, Finset.sum_range_add, Finset.sum_add_distrib]
    simp only [Nat.add_comm 128, Nat.reduceMul]
  rw [h1, sum_by_eight, Finset.sum_comm]
  simp only [chain, Finset.sum_range_succ _ 7, Finset.sum_range_succ _ 6, Finset.sum_range_succ _ 5,
    Finset.sum_range_succ _ 4, Finset.sum_range_succ _ 3, Finset.sum_range_succ _ 2, Finset.sum_range_succ _ 1,
    Finset.sum_range_succ _ 0, Finset.sum_range_zero, zero_add]
  abel

/-- What the first call leaves in a block of `e_actv`: row 3 of the packed operand is the first layer's weights, rows 8 to
    263 the second layer's, row 2 the bias. -/
theorem actv_out (x0 : Vec Ideal S256x512 .f32) (x1 : Vec Ideal S264x256 .f32) (r d : Fin 256) :
    out0_2 x0 x1 (ix2 r d)
      = Ideal.tanh ((∑ k : Fin 256, (∑ t : Fin 256, max (x0 (ix2 r ⟨t.val, by omega⟩) * x1 (ix2 3 k)) 0) * ((1 / 256 : ℝ) : EReal)
            * x1 (ix2 ⟨8 + k.val, by omega⟩ d))
          + x1 (ix2 2 d)) := by
  unfold_out out0_2
  rw [View.canon_unit_zero (by funext a; fin_cases a <;> rfl)]
  unfold_payloads
  pointwise [ofBits_inv256]
  congr 2
  refine Finset.sum_congr rfl fun k _ => ?_
  congr 2
  have e : (∑ t : Fin 256, max (x0 (ix2 r ⟨t.val, by omega⟩) * x1 (ix2 3 k)) 0)
      = ∑ t ∈ Finset.range 256, (fun t : ℕ => max (x0 (ix2 r (Fin.ofNat 512 t)) * x1 (ix2 3 k)) 0) t := by
    rw [Finset.sum_range]
    refine Finset.sum_congr rfl fun t _ => ?_
    have ht : (⟨t.val, by omega⟩ : Fin 512) = Fin.ofNat 512 t.val := Fin.ext (Nat.mod_eq_of_lt (by omega)).symm
    rw [ht]
  rw [e, ← chains_eq]
  simp only [chain, Finset.sum_range_succ, Finset.sum_range_zero, zero_add]
  rfl

end Cert.Embed
-- ==== Proof.KernelArrays.lean ====
/-
  What the first call's two result arrays hold: the eight blocks of 256 rows, put together.
-/
module

public import proofs.«01_k».proof.Proof.KernelHost
public import proofs.«01_k».proof.Proof.ApBlock
public import proofs.«01_k».proof.Proof.ActvBlock
public import Idealize.ShloMosaic.Lib.Pipeline.ValueKit

@[expose] public section

noncomputable section

namespace Cert.Embed

open Cert.KernelIdeal Cert.KernelIdeal.Gen
open Idealize.ShloMosaic Idealize.ShloMosaic.TcCoe Idealize.SL.Sem

/-- The first result from the context and the packed operand (rows: 2 the second bias, 3 the first weights, 8 on the second weights). -/
def actvOf (x : Vec Ideal S2048x512 .f32) (p : Vec Ideal S264x256 .f32) (r : Fin 2048) (d : Fin 256) : EReal :=
  Ideal.tanh ((∑ k : Fin 256, (∑ t : Fin 256, max (x (ix2 r ⟨t.val, by omega⟩) * p (ix2 3 k)) 0) * ((1/256 : ℝ) : EReal)
    * p (ix2 ⟨8 + k.val, by omega⟩ d)) + p (ix2 2 d))

/-- The second result from the context and the packed operand (rows: 0 and 1 the two parts, 2 the second bias). -/
def apOf (x : Vec Ideal S2048x512 .f32) (p : Vec Ideal S264x256 .f32) (r : Fin 2048) (d : Fin 256) : EReal :=
  Ideal.tanh ((∑ t : Fin 512, max (x (ix2 r t)) 0) * ((1/512 : ℝ) : EReal) * p (ix2 0 d)
    + (∑ t : Fin 512, min (x (ix2 r t)) 0) * ((1/512 : ℝ) : EReal) * p (ix2 1 d) + p (ix2 2 d))

variable (V : (c : Dev nD) → (b : Ref sig .tc) → Buf (Elt Ideal) ((c : Thread nD τ).loc b))

/-- Point `t` of the first call works on the `t`-th block of rows, and on the whole packed operand. -/
theorem idx0 : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem actv_arr (c : Dev nD) : (dat0 V c).arrAt 2 cfg0.N
    = (fun i => actvOf (V c main_arg0) (V c main_v15) (i 0) (i 1) : Vec Ideal S2048x256 .f32) := by
  refine (dat0 V c).arrAt_eq_of_covers 2 _ (by decide +kernel) fun t hf y => ?_
  blk_simp
  rw [after0_2]
  have hi := idx0 t
  obtain ⟨r, d, rfl⟩ : ∃ (r d : Fin 256), y = ix2 r d := ⟨y 0, y 1, by funext a; fin_cases a <;> rfl⟩
  refine (actv_out (iblk0 V c 0 t) (iblk0 V c 1 t) r d).trans ?_
  unfold actvOf
  blk_point [iblk0, hi]

theorem ap_arr (c : Dev nD) : (dat0 V c).arrAt 3 cfg0.N
    = (fun i => apOf (V c main_arg0) (V c main_v15) (i 0) (i 1) : Vec Ideal S2048x256 .f32) := by
  refine (dat0 V c).arrAt_eq_of_covers 3 _ (by decide +kernel) fun t hf y => ?_
  blk_simp
  rw [after0_3]
  have hi := idx0 t
  obtain ⟨r, d, rfl⟩ : ∃ (r d : Fin 256), y = ix2 r d := ⟨y 0, y 1, by funext a; fin_cases a <;> rfl⟩
  refine (ap_out (iblk0 V c 0 t) (iblk0 V c 1 t) r d).trans ?_
  unfold apOf
  blk_point [iblk0, hi]

end Cert.Embed
-- ==== Proof.AnArray.lean ====
/-
  What the second call's result array holds: row `r` is the row of the first result at the first least masked distance
  from row `r`.
-/
module

public import proofs.«01_k».proof.Proof.AnBlock
public import Idealize.ShloMosaic.Lib.Pipeline.ValueKit

@[expose] public section

noncomputable section

namespace Cert.Embed

open Cert.KernelIdeal Cert.KernelIdeal.Gen
open Idealize.ShloMosaic Idealize.ShloMosaic.TcCoe Idealize.SL.Sem

/-- The third result from the first one and the hosts. -/
def anOf (e : Vec Ideal S2048x256 .f32) (host : Fin 2048 → BitVec 32) (r : Fin 2048) (d : Fin 256) : EReal :=
  e (ix2 (firstMin (maskedSq e host (fun k => e (ix2 r k)) (host r))) d)

variable (V : (c : Dev nD) → (b : Ref sig .tc) → Buf (Elt Ideal) ((c : Thread nD τ).loc b))

/-- Every point reads both operands whole; point `t` writes the `t`-th block of rows. -/
theorem idx1 : ∀ t : Fin cfg1.N, win1_0.index t = ![0, 0] ∧ win1_1.index t = ![0, 0] ∧ win1_2.index t = ![t.val, 0] :=
  (by decide +kernel : ∀ t : Fin grid1.N, _)

theorem iblk1_e (c : Dev nD) (t : Fin cfg1.N) : iblk1 V c 0 t = (V c main_v16_0 : Vec Ideal S2048x256 .f32) := by
  have hi := idx1 t
  funext y
  obtain ⟨r, d, rfl⟩ : ∃ (r : Fin 2048) (d : Fin 256), y = ix2 r d := ⟨y 0, y 1, by funext a; fin_cases a <;> rfl⟩
  blk_ext [iblk1, hi]

theorem iblk1_host (c : Dev nD) (t : Fin cfg1.N) : iblk1 V c 1 t = (V c main_v17 : Vec Ideal S1x2048 .i32) := by
  have hi := idx1 t
  funext y
  obtain ⟨r, d, rfl⟩ : ∃ (r : Fin 1) (d : Fin 2048), y = ix2 r d := ⟨y 0, y 1, by funext a; fin_cases a <;> rfl⟩
  blk_ext [iblk1, hi]

theorem an_arr (c : Dev nD) : (dat1 V c).arrAt 2 cfg1.N
    = (fun i => anOf (V c main_v16_0) (fun x => (V c main_v17 : Vec Ideal S1x2048 .i32) (ix2 0 x)) (i 0) (i 1) : Vec Ideal S2048x256 .f32) := by
  refine (dat1 V c).arrAt_eq_of_covers 2 _ (by decide +kernel) fun t hf y => ?_
  blk_simp
  rw [after1_2]
  have hi := idx1 t
  obtain ⟨r, d, rfl⟩ : ∃ (r d : Fin 256), y = ix2 r d := ⟨y 0, y 1, by funext a; fin_cases a <;> rfl⟩
  refine (an_out V c t r d).trans ?_
  rw [iblk1_e, iblk1_host]
  have e0 : (win1_2.blk t).view.emb (ix2 r d) 0 = rowAt t r := by
    refine Fin.ext ?_
    unfold rowAt
    blk_simp [hi]
    show t.val * 256 + r.val = 256 * t.val + r.val
    omega
  have e1 : (win1_2.blk t).view.emb (ix2 r d) 1 = d := by
    refine Fin.ext ?_
    blk_simp [hi]
  unfold anOf
  rw [e0, e1]

end Cert.Embed
-- ==== Proof.RefEntries.lean ====
/-
  The reference's embeddings and masked distances, entry by entry.
-/
module

public import proofs.«01_k».proof.Proof.RefTerm
public import proofs.«01_k».proof.Proof.ApBlock
public import proofs.«01_k».proof.Proof.AnBlock
public import Idealize.ShloMosaic.Lib.Pointwise

@[expose] public section

noncomputable section

namespace Cert.Embed.Ref

open Idealize.ShloMosaic Cert.ReferenceIdeal Cert.ReferenceIdeal.Gen

theorem ofBits_256 : Ideal.ofBits .f32 1132462080#32 = ((256 : ℝ) : EReal) := by
  simp [Ideal.ofBits, Ideal.ieee, -EReal.coe_mul]; norm_num
theorem ofBits_512 : Ideal.ofBits .f32 1140850688#32 = ((512 : ℝ) : EReal) := by
  simp [Ideal.ofBits, Ideal.ieee, -EReal.coe_mul]; norm_num

variable (x : FVec Ideal S2048x512 .f32) (w : FVec Ideal S1x256 .f32) (b1 : FVec Ideal S256 .f32) (W2 : FVec Ideal S256x256 .f32)
    (b2 : FVec Ideal S256 .f32)

/-- The first result where the first bias is zero. -/
theorem actv_entry (hb : ∀ k, b1 (ix1 k) = 0) (r : Fin 2048) (d : Fin 256) : actv x w b1 W2 b2 (ix2 r d)
    = Ideal.tanh ((∑ k : Fin 256, (∑ t : Fin 256, max (x (ix2 r ⟨t.val, by omega⟩) * w (ix2 0 k)) 0) * ((1/256 : ℝ) : EReal)
      * W2 (ix2 k d)) + b2 (ix1 d)) := by
  pointwise [actv]
  simp only [Fin.sum_univ_one, hb, add_zero, ofBits_256, Ideal.div_coe (show (256 : ℝ) ≠ 0 by norm_num)]

/-- The second result where the first bias is zero. -/
theorem ap_entry (hb : ∀ k, b1 (ix1 k) = 0) (r : Fin 2048) (d : Fin 256) : ap x w b1 W2 b2 (ix2 r d)
    = Ideal.tanh ((∑ k : Fin 256, (∑ t : Fin 512, max (x (ix2 r t) * w (ix2 0 k)) 0) * ((1/512 : ℝ) : EReal)
      * W2 (ix2 k d)) + b2 (ix1 d)) := by
  pointwise [ap]
  simp only [Fin.sum_univ_one, hb, add_zero, ofBits_512, Ideal.div_coe (show (512 : ℝ) ≠ 0 by norm_num)]

/-- Entry (`r`, `j`) of the masked distances: the largest size for one host; else the root of the squared distance, since
    `r` and `j` then differ. -/
theorem masked_entry (e : FVec Ideal S2048x256 .f32) (host : IVec S2048 32) (r j : Fin 2048) : masked e host (ix2 r j)
    = if host (ix1 r) = host (ix1 j) then ((9223372036854775808 : ℝ) : EReal)
      else Ideal.sqrt (sqDist (fun k => e (ix2 r k)) fun k => e (ix2 j k)) := by
  pointwise [masked]
  rw [select_eq]
  split_ifs with h
  · exact ofBits_big
  · have hne : IntOp.cmpi .eq (IntOp.addi (BitVec.ofNat 32 r.val) 0#32) (BitVec.ofNat 32 j.val) = 0#1 := by
      have hrj : ¬ BitVec.ofNat 32 r.val = BitVec.ofNat 32 j.val := fun e => h (by rw [ofNat_inj.mp e])
      unfold IntOp.cmpi IntOp.addi
      rw [BitVec.add_zero]
      show BitVec.ofBool (BitVec.ofNat 32 r.val == BitVec.ofNat 32 j.val) = 0#1
      rw [beq_eq_false_iff_ne.mpr hrj]
      rfl
    rw [hne]
    have hz : FloatOps.uitofp (F := Ideal) .f32 (0#1) = 0 := by
      show (((0#1).toNat : ℝ) : EReal) = 0
      simp
    rw [hz, mul_zero, add_zero, ofBits_two, max_comm]
    rfl

end Cert.Embed.Ref
-- ==== Proof.RefRows.lean ====
/-
  The reference's arg-min and the rows it takes: row `r` of the negative anchors is the row at the first least masked
  distance from row `r`.
-/
module

public import proofs.«01_k».proof.Proof.RefTerm
public import proofs.«01_k».proof.Proof.AnBlock
public import Idealize.ShloMosaic.Lib.Pointwise
public import Idealize.ShloMosaic.PureOps.Ideal.Laws
public import Idealize.ShloMosaic.Lib.Routing.Ops

@[expose] public section

noncomputable section

namespace Cert.Embed.Ref

open Idealize.ShloMosaic Cert.ReferenceIdeal Cert.ReferenceIdeal.Gen

/-- At extended reals the reducer of the arg-min keeps the smaller pair. -/
theorem reducer_eq : reducer_argmin_f32_i32 (F := Ideal) = keep := by
  funext a b
  unfold reducer_argmin_f32_i32 keep
  have hs : ∀ p q : BitVec 32, IntOp.cmpi .slt p q = BitVec.ofBool (decide (p.toInt < q.toInt)) := fun p q => by
    show BitVec.ofBool (p.slt q) = _
    rw [BitVec.slt_eq_decide]
  have h2 : BitVec.ofBool (decide (a.1 ≠ a.1)) = 0#1 := by simp
  simp only [Ideal.cmpf_def, Ideal.cmp, hs, h2]
  obtain ⟨u, p⟩ := a
  obtain ⟨v, q⟩ := b
  dsimp only
  by_cases hl : u < v
  · simp [hl, hl.ne, Scalar.select, IntOp.ori, IntOp.andi]
  · by_cases he : u = v
    · subst he
      by_cases hp : p.toInt < q.toInt
      · simp [hp, Scalar.select, IntOp.ori, IntOp.andi]
      · simp [hp, Scalar.select, IntOp.ori, IntOp.andi]
    · simp [hl, he, Scalar.select, IntOp.ori, IntOp.andi]

section
variable {s t : Shape} {axes : List (Fin s.rank)} {α β : Type}

theorem mem_fiber (x : s.Idx → α) (y : s.Idx → β) (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨n, hn, rfl⟩
    exact ⟨_, by simpa using (List.mem_filter.mp hn).2, rfl⟩
  · rintro ⟨i, hi, rfl⟩
    refine ⟨s.rowMajor i, List.mem_filter.mpr ⟨List.mem_finRange _, ?_⟩, ?_⟩
    · simpa using hi
    · simp

end

theorem drop_row {n m : ℕ} (h : (⟨2, ![n, m]⟩ : Shape).ReducesTo [1] ⟨1, ![n]⟩) (r : Fin n) (i : (⟨2, ![n, m]⟩ : Shape).Idx) :
    h.drop i = ix1 r ↔ ∃ k : Fin m, ix2 r k = i := Shape.ReducesTo.fiber_r2_a1 h (ix1 r) i

theorem iota_col (r c : Fin 2048) : iotaInDim S2048x2048 32 1 (ix2 r c) = BitVec.ofNat 32 c.val := rfl

theorem init_top : (constant S_ .f32 0x7F800000#32 : FVec Ideal S_ .f32) (Shape.Idx.first h_S_) = (⊤ : EReal) := ofBits_inf

theorem init_zero : (constantI S_ 32 0#32) (Shape.Idx.first h_S_) = 0#32 := rfl

/-- The (entry, column) pairs of row `r`. -/
theorem mem_row (y : FVec Ideal S2048x2048 .f32) (r : Fin 2048) (p : EReal × BitVec 32) :
    p ∈ Host.argReduceFiber y (iotaInDim S2048x2048 32 1) reducesTo_S2048x2048_S2048_d1 (ix1 r)
      ↔ ∃ c : Fin 2048, p = (y (ix2 r c), BitVec.ofNat 32 c.val) := by
  rw [mem_fiber]
  constructor
  · rintro ⟨i, hi, rfl⟩
    obtain ⟨k, rfl⟩ := (drop_row _ _ _).mp hi
    exact ⟨k, Prod.ext rfl (iota_col r k)⟩
  · rintro ⟨c, rfl⟩
    exact ⟨ix2 r c, (drop_row _ _ _).mpr ⟨c, rfl⟩, Prod.ext rfl (iota_col r c)⟩

theorem argReduce_fold (y : FVec Ideal S2048x2048 .f32) (r : Fin 2048) :
    Host.argReduce reducer_argmin_f32_i32 y (iotaInDim S2048x2048 32 1) (constant S_ .f32 0x7F800000#32) (constantI S_ 32 0#32)
        reducesTo_S2048x2048_S2048_d1 h_S_ (ix1 r)
      = (Host.argReduceFiber y (iotaInDim S2048x2048 32 1) reducesTo_S2048x2048_S2048_d1 (ix1 r)).foldl keep (⊤, 0#32) := by
  rw [Ideal.argReduce_eq_reduce2, Host.reduce2_eq_foldl_fiber, reducer_eq, init_top, init_zero]

theorem argmin_snd (y : FVec Ideal S2048x2048 .f32) (r : Fin 2048) : argmin y (ix1 r)
    = (Host.argReduce reducer_argmin_f32_i32 y (iotaInDim S2048x2048 32 1) (constant S_ .f32 0x7F800000#32) (constantI S_ 32 0#32)
        reducesTo_S2048x2048_S2048_d1 h_S_ (ix1 r)).2 :=
  congrFun (show argmin y = fun j =>
    (Host.argReduce reducer_argmin_f32_i32 y (iotaInDim S2048x2048 32 1) (constant S_ .f32 0x7F800000#32) (constantI S_ 32 0#32)
      reducesTo_S2048x2048_S2048_d1 h_S_ j).2 from rfl) (ix1 r)

/-- Over the pairs of a row, the fold ends on the first least column. -/
theorem fold_row (L : List (EReal × BitVec 32)) (y : FVec Ideal S2048x2048 .f32) (r : Fin 2048)
    (hm : ∀ p : EReal × BitVec 32, p ∈ L ↔ ∃ c : Fin 2048, p = (y (ix2 r c), BitVec.ofNat 32 c.val)) :
    (L.foldl keep (⊤, 0#32)).2 = BitVec.ofNat 32 (firstMin fun j : Fin 2048 => y (ix2 r j)).val :=
  foldl_keep_word (firstMin_spec _) L (fun p hp => (hm p).mp hp) fun c => (hm _).mpr ⟨c, rfl⟩

/-- The arg-min finds the first least position of each row. -/
theorem argmin_entry (y : FVec Ideal S2048x2048 .f32) (r : Fin 2048) :
    argmin y (ix1 r) = BitVec.ofNat 32 (firstMin fun j : Fin 2048 => y (ix2 r j)).val :=
  (argmin_snd y r).trans ((congrArg Prod.snd (argReduce_fold y r)).trans (fold_row _ y r (mem_row y r)))

/-- A row taken at a column word below 2048. -/
theorem rows_entry (e : FVec Ideal S2048x256 .f32) (idx : IVec S2048 32) (r k : Fin 2048) (d : Fin 256)
    (h : idx (ix1 r) = BitVec.ofNat 32 k.val) : rows e idx (ix2 r d) = e (ix2 k d) := by
  unfold rows
  refine Routing.gather_row _ rfl rfl rfl rfl rfl e _ r d k ?_ (by norm_num)
  pointwise []
  rw [h]
  have hlt : IntOp.cmpi .slt (BitVec.ofNat 32 k.val) 0#32 = 0#1 := by
    show BitVec.ofBool ((BitVec.ofNat 32 k.val).slt 0#32) = 0#1
    have : ¬ (BitVec.ofNat 32 k.val).toInt < (0#32).toInt := by rw [toInt_ofNat]; simp
    rw [BitVec.slt_eq_decide, decide_eq_false this]
    rfl
  rw [hlt]
  rfl

/-- Row `r` of the negative anchors is the row at the first least masked distance. -/
theorem an_entry (e : FVec Ideal S2048x256 .f32) (host : IVec S2048 32) (r : Fin 2048) (d : Fin 256) :
    an e host (ix2 r d) = e (ix2 (firstMin fun j : Fin 2048 => masked e host (ix2 r j)) d) :=
  rows_entry e _ r _ d (argmin_entry _ r)

end Cert.Embed.Ref
-- ==== Proof.Order.lean ====
/-
  The kernel compares squared distances, the reference their roots: over real embeddings of size at most one the two
  orders are the same, also against the value that stands for a row of the same host.
-/
module

public import proofs.«01_k».proof.Proof.AnBlock
public import proofs.«01_k».proof.Proof.RealSums
public import Mathlib.Analysis.Complex.Trigonometric

@[expose] public section

noncomputable section

namespace Cert.Embed

open Idealize.ShloMosaic Cert.KernelIdeal

/-- Every value of the hyperbolic tangent is a real of size at most one. -/
theorem tanh_real (x : EReal) : ∃ t : ℝ, Ideal.tanh x = (t : EReal) ∧ |t| ≤ 1 := by
  induction x using EReal.rec with
  | bot => exact ⟨-1, by rw [Ideal.tanh_bot]; rfl, by norm_num⟩
  | coe a => exact ⟨Real.tanh a, Ideal.tanh_coe a, (Real.abs_tanh_lt_one a).le⟩
  | top => exact ⟨1, by rw [Ideal.tanh_top]; rfl, by norm_num⟩

/-- The squared distance of two real vectors of size at most one is a real between 0 and 1024. -/
theorem sqDist_real (a b : Fin 256 → ℝ) (ha : ∀ k, |a k| ≤ 1) (hb : ∀ k, |b k| ≤ 1) :
    ∃ D : ℝ, sqDist (fun k => (a k : EReal)) (fun k => (b k : EReal)) = (D : EReal) ∧ 0 ≤ D ∧ D ≤ 1024 := by
  refine ⟨max ((∑ k, a k * a k) + (∑ k, b k * b k) - 2 * ∑ k, a k * b k) 0, ?_, le_max_right _ _, max_le ?_ (by norm_num)⟩
  · unfold sqDist
    simp only [← EReal.coe_zero, ← EReal.coe_mul, ← coe_sum, ← EReal.coe_add, ← EReal.coe_sub, ← coe_max]
  · have h : (∑ k, a k * a k) + (∑ k, b k * b k) - 2 * ∑ k, a k * b k = ∑ k, (a k - b k) * (a k - b k) := by
      rw [Finset.mul_sum, ← Finset.sum_add_distrib, ← Finset.sum_sub_distrib]
      exact Finset.sum_congr rfl fun k _ => by ring
    rw [h]
    refine (Finset.sum_le_card_nsmul Finset.univ _ 4 fun k _ => ?_).trans (by simp; norm_num)
    have h1 := abs_le.mp (ha k)
    have h2 := abs_le.mp (hb k)
    nlinarith [h1.1, h1.2, h2.1, h2.2]

/-- The masked roots are in the order of the masked squares. -/
theorem order_iff {x y : EReal} (p q : Prop) [Decidable p] [Decidable q] (hx : ∃ D : ℝ, x = (D : EReal) ∧ 0 ≤ D ∧ D ≤ 1024)
    (hy : ∃ D : ℝ, y = (D : EReal) ∧ 0 ≤ D ∧ D ≤ 1024) :
    ((if p then ((9223372036854775808 : ℝ) : EReal) else x) < (if q then ((9223372036854775808 : ℝ) : EReal) else y))
      ↔ ((if p then ((9223372036854775808 : ℝ) : EReal) else Ideal.sqrt x) < (if q then ((9223372036854775808 : ℝ) : EReal) else Ideal.sqrt y)) := by
  obtain ⟨X, rfl, hX, hX'⟩ := hx
  obtain ⟨Y, rfl, hY, hY'⟩ := hy
  have root : ∀ D : ℝ, 0 ≤ D → D ≤ 1024 → Real.sqrt D ≤ 1024 := fun D h h' => Real.sqrt_le_iff.mpr ⟨by norm_num, by nlinarith⟩
  rw [Ideal.sqrt_coe, Ideal.sqrt_coe, if_neg (not_lt.mpr hX), if_neg (not_lt.mpr hY)]
  have rX := root X hX hX'
  have rY := root Y hY hY'
  by_cases hp : p <;> by_cases hq : q
  · simp only [if_pos hp, if_pos hq]
  · simp only [if_pos hp, if_neg hq, EReal.coe_lt_coe_iff]
    exact ⟨fun h => by linarith, fun h => by linarith⟩
  · simp only [if_neg hp, if_pos hq, EReal.coe_lt_coe_iff]
    exact ⟨fun _ => by linarith, fun _ => by linarith⟩
  · simp only [if_neg hp, if_neg hq, EReal.coe_lt_coe_iff]
    exact (Real.sqrt_lt_sqrt_iff hX).symm

end Cert.Embed
-- ==== Proof.Equations.lean ====
/-
  The three equations between the kernel's results and the reference's terms, over the arrays.
-/
module

public import proofs.«01_k».proof.Proof.KernelArrays
public import proofs.«01_k».proof.Proof.AnArray
public import proofs.«01_k».proof.Proof.RefEntries
public import proofs.«01_k».proof.Proof.RefRows
public import proofs.«01_k».proof.Proof.Order

@[expose] public section

noncomputable section

namespace Cert.Embed

open Idealize.ShloMosaic Cert.KernelIdeal

variable (x : FVec Ideal S2048x512 .f32) (w : FVec Ideal S1x256 .f32) (b1 : FVec Ideal S256 .f32) (W2 : FVec Ideal S256x256 .f32)
    (b2 : FVec Ideal S256 .f32) (p : FVec Ideal S264x256 .f32)

/-- The first result: rows 3, 8 on and 2 of the packed operand are the first weights, the second weights and the second bias. -/
theorem actv_eq (hb : ∀ k, b1 (ix1 k) = 0) (hw : ∀ d : Fin 256, p (ix2 3 d) = w (ix2 0 d))
    (hW2 : ∀ k d : Fin 256, p (ix2 ⟨8 + k.val, by omega⟩ d) = W2 (ix2 k d)) (hb2 : ∀ d : Fin 256, p (ix2 2 d) = b2 (ix1 d)) :
    (fun i => actvOf x p (i 0) (i 1) : FVec Ideal S2048x256 .f32) = Ref.actv x w b1 W2 b2 := by
  funext i
  obtain ⟨r, d, rfl⟩ : ∃ (r : Fin 2048) (d : Fin 256), i = ix2 r d := ⟨i 0, i 1, by funext a; fin_cases a <;> rfl⟩
  show actvOf x p r d = _
  rw [Ref.actv_entry x w b1 W2 b2 hb]
  unfold actvOf
  simp only [hw, hW2, hb2]

/-- The second result: rows 0 and 1 of the packed operand are the products of the positive and of the negative first weights
    with the second weights. -/
theorem ap_eq (hb : ∀ k, b1 (ix1 k) = 0) (hx : ∀ i, x i = (((x i).toReal : ℝ) : EReal)) (hw : ∀ i, w i = (((w i).toReal : ℝ) : EReal))
    (hW2 : ∀ i, W2 i = (((W2 i).toReal : ℝ) : EReal))
    (hu : ∀ d : Fin 256, p (ix2 0 d) = ∑ k : Fin 256, wPos w (ix1 k) * W2 (ix2 k d))
    (hv : ∀ d : Fin 256, p (ix2 1 d) = ∑ k : Fin 256, wNeg w (ix1 k) * W2 (ix2 k d)) (hb2 : ∀ d : Fin 256, p (ix2 2 d) = b2 (ix1 d)) :
    (fun i => apOf x p (i 0) (i 1) : FVec Ideal S2048x256 .f32) = Ref.ap x w b1 W2 b2 := by
  funext i
  obtain ⟨r, d, rfl⟩ : ∃ (r : Fin 2048) (d : Fin 256), i = ix2 r d := ⟨i 0, i 1, by funext a; fin_cases a <;> rfl⟩
  show apOf x p r d = _
  rw [Ref.ap_entry x w b1 W2 b2 hb]
  unfold apOf
  rw [hu, hv, hb2]
  rw [split_ereal (fun t : Fin 512 => x (ix2 r t)) (fun k : Fin 256 => w (ix2 0 k)) (fun k : Fin 256 => W2 (ix2 k d)) (1/512)
    (fun t => hx _) (fun k => hw _) fun k => hW2 _]
  rfl

/-- Entries of the first result are reals of size at most one. -/
theorem actv_real (hb : ∀ k, b1 (ix1 k) = 0) (r : Fin 2048) (k : Fin 256) :
    ∃ t : ℝ, Ref.actv x w b1 W2 b2 (ix2 r k) = (t : EReal) ∧ |t| ≤ 1 := by
  rw [Ref.actv_entry x w b1 W2 b2 hb]
  exact tanh_real _

/-- The third result, from a first result whose entries are reals of size at most one. -/
theorem an_eq (e : FVec Ideal S2048x256 .f32) (host : IVec S2048 32) (he : ∀ r k, ∃ t : ℝ, e (ix2 r k) = (t : EReal) ∧ |t| ≤ 1) :
    (fun i => anOf e (fun c => host (ix1 c)) (i 0) (i 1) : FVec Ideal S2048x256 .f32) = Ref.an e host := by
  funext i
  obtain ⟨r, d, rfl⟩ : ∃ (r : Fin 2048) (d : Fin 256), i = ix2 r d := ⟨i 0, i 1, by funext a; fin_cases a <;> rfl⟩
  show anOf e (fun c => host (ix1 c)) r d = _
  rw [Ref.an_entry]
  unfold anOf
  have hd : ∀ j, ∃ D : ℝ, sqDist (fun k => e (ix2 r k)) (fun k => e (ix2 j k)) = (D : EReal) ∧ 0 ≤ D ∧ D ≤ 1024 := fun j => by
    choose A hA using he r
    choose B hB using he j
    have ha : (fun k => e (ix2 r k)) = fun k => ((A k : ℝ) : EReal) := funext fun k => (hA k).1
    have hb : (fun k => e (ix2 j k)) = fun k => ((B k : ℝ) : EReal) := funext fun k => (hB k).1
    rw [ha, hb]
    exact sqDist_real A B (fun k => (hA k).2) fun k => (hB k).2
  have hf : firstMin (maskedSq e (fun c => host (ix1 c)) (fun k => e (ix2 r k)) (host (ix1 r))) = firstMin fun j => Ref.masked e host (ix2 r j) :=
    firstMin_congr fun i j => by
      rw [Ref.masked_entry, Ref.masked_entry]
      exact order_iff _ _ (hd i) (hd j)
  rw [hf]

end Cert.Embed
-- ==== Proof.lean ====
/-
  The certificate: both frames of the kernel are the generated ones, the reference's frame is read off its run, and the
  value claim joins the two runs by the three equations of `Proof/Equations`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Pre_no_first_bias
public import proofs.«01_k».proof.Proof.Gen.ReferenceIdeal
public import proofs.«01_k».proof.Proof.KernelRun
public import proofs.«01_k».proof.Proof.KernelHost
public import proofs.«01_k».proof.Proof.RefRun
public import proofs.«01_k».proof.Proof.Precondition
public import proofs.«01_k».proof.Proof.Equations

@[expose] public section

noncomputable section

namespace Cert.Proof

open Idealize.ShloMosaic Idealize.SL.Sem Cert.Embed

section Values

open Cert.KernelIdeal Cert.KernelIdeal.Gen

variable (m : (ℓ : Loc nD τ sig) → Buf (Elt Ideal) ℓ) (g : Dev nD → PrngReg)

/-- The first result the kernel leaves is the reference's embedding of the half context. -/
theorem actv_value (hpre : Cert.Pre_KernelIdeal_no_first_bias m) (c : Dev nD) : (dat0 (V5 m g) c).arrAt 2 cfg0.N
    = Ref.actv (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  obtain ⟨hb, -, -, -⟩ := Pre.read _ _ _ _ _ _ (hpre c)
  rw [actv_arr, V5_context]
  exact actv_eq _ _ _ _ _ _ (fun k => hb _) (V5_w m g c) (V5_W2 m g c) (V5_b2 m g c)

/-- The second result the kernel leaves is the reference's embedding of the whole context. -/
theorem ap_value (hpre : Cert.Pre_KernelIdeal_no_first_bias m) (c : Dev nD) : (dat0 (V5 m g) c).arrAt 3 cfg0.N
    = Ref.ap (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) := by
  obtain ⟨hb, hx, hw, hW⟩ := Pre.read _ _ _ _ _ _ (hpre c)
  rw [ap_arr, V5_context]
  exact ap_eq _ _ _ _ _ _ (fun k => hb _) hx hw hW (V5_u m g c) (V5_v m g c) (V5_b2 m g c)

/-- The third result the kernel leaves is the reference's negative anchors. -/
theorem an_value (hpre : Cert.Pre_KernelIdeal_no_first_bias m) (c : Dev nD) : (dat1 (V7 m g) c).arrAt 2 cfg1.N
    = Ref.an (Ref.actv (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5))) (m ((c.tc : Thread nD τ).loc main_arg1)) := by
  obtain ⟨hb, -, -, -⟩ := Pre.read _ _ _ _ _ _ (hpre c)
  rw [an_arr, V7_actv, actv_value m g hpre c]
  have hh : (fun x : Fin 2048 => (V7 m g c main_v17 : Vec Ideal S1x2048 .i32) (ix2 0 x))
      = fun x => (m ((c.tc : Thread nD τ).loc main_arg1) : IVec S2048 32) (ix1 x) := funext (V7_host m g c)
  rw [hh]
  exact an_eq _ _ (actv_real _ _ _ _ _ fun k => hb _)

end Values

/-- The three results, from memories agreeing on the arguments. -/
theorem algebraic : Cert.algebraic_KernelIdeal_ReferenceIdeal_pre_no_first_bias := by
  intro m g m' g' hpre hagree
  refine ⟨fun c => (Cert.KernelIdeal.Gen.dat0 (Cert.KernelIdeal.Gen.V5 m g) c).arrAt 2 Cert.KernelIdeal.cfg0.N,
    fun c => (Cert.KernelIdeal.Gen.dat0 (Cert.KernelIdeal.Gen.V5 m g) c).arrAt 3 Cert.KernelIdeal.cfg0.N,
    fun c => (Cert.KernelIdeal.Gen.dat1 (Cert.KernelIdeal.Gen.V7 m g) c).arrAt 2 Cert.KernelIdeal.cfg1.N,
    kernel_run m g, θ_run_mono (Ref.run m' g') fun r h c => ?_⟩
  have e := h c
  obtain ⟨a0, a1, a2, a3, a4, a5⟩ := hagree c
  refine ⟨e.1.trans ?_, e.2.1.trans ?_, e.2.2.1.trans ?_, e.2.2.2⟩
  · rw [a0, a2, a3, a4, a5]
    exact (actv_value m g hpre c).symm
  · rw [a0, a2, a3, a4, a5]
    exact (ap_value m g hpre c).symm
  · rw [a0, a1, a2, a3, a4, a5]
    exact (an_value m g hpre c).symm

theorem claim : Cert.Claim :=
  ⟨Cert.Kernel.Gen.facts, Cert.KernelIdeal.Gen.facts, Cert.ReferenceIdeal.Gen.facts, Cert.Pre_no_first_bias.Gen.facts,
    fun m ρ _ => Cert.Kernel.Gen.frame m ρ, fun m ρ _ => Cert.KernelIdeal.Gen.frame m ρ, fun m ρ _ => Cert.KernelIdeal.Gen.frame m ρ,
    fun m g _ => Ref.frame m g, fun m g _ => Ref.frame m g, trivial, algebraic⟩

end Cert.Proof

end
